-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v4) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReference : Cert.Reference.Facts) (hReferenceIdeal : Cert.ReferenceIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S4x2048x1024 : Shape := ⟨3, ![4, 2048, 1024]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x2048x1024, .f32⟩
  | .hbm, ⟨1, _⟩ => ⟨S2048x1024, .f32⟩
  | .hbm, ⟨2, _⟩ => ⟨S4x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S512x1024, .f32⟩
  | .local _ .vmem, ⟨3, _⟩ => ⟨S512x1024, .f32⟩
  | .local _ .vmem, ⟨4, _⟩ => ⟨S1x512x1024, .f32⟩
  | .local _ .vmem, ⟨5, _⟩ => ⟨S1x512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference.lean ====
abbrev S4x2048x1024 : Shape := ⟨3, ![4, 2048, 1024]⟩
abbrev S2048x1024 : Shape := ⟨2, ![2048, 1024]⟩
abbrev S2048 : Shape := ⟨1, ![2048]⟩
abbrev S_ : Shape := ⟨0, ![]⟩
abbrev S2048x1 : Shape := ⟨2, ![2048, 1]⟩
abbrev S1 : Shape := ⟨1, ![1]⟩
abbrev S1x1 : Shape := ⟨2, ![1, 1]⟩
abbrev S1x2048x1024 : Shape := ⟨3, ![1, 2048, 1024]⟩

abbrev nBuf : Space → Nat
  | .hbm => 29
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S2048x1024, .f32⟩
  | .hbm, ⟨2, _⟩ => ⟨S2048, .i32⟩
  | .hbm, ⟨3, _⟩ => ⟨S_, .i32⟩
  | .hbm, ⟨4, _⟩ => ⟨S2048, .i32⟩
  | .hbm, ⟨5, _⟩ => ⟨S2048, .i1⟩
  | .hbm, ⟨6, _⟩ => ⟨S_, .i32⟩
  | .hbm, ⟨7, _⟩ => ⟨S2048, .i32⟩
  | .hbm, ⟨8, _⟩ => ⟨S2048, .i32⟩
  | .hbm, ⟨9, _⟩ => ⟨S2048, .i32⟩
  | .hbm, ⟨10, _⟩ => ⟨S2048x1, .i32⟩
  | .hbm, ⟨11, _⟩ => ⟨S1, .i32⟩
  | .hbm, ⟨12, _⟩ => ⟨S_, .i32⟩
  | .hbm, ⟨13, _⟩ => ⟨S2048x1, .i32⟩
  | .hbm, ⟨14, _⟩ => ⟨S2048x1, .i1⟩
  | .hbm, ⟨15, _⟩ => ⟨S1x1, .i32⟩
  | .hbm, ⟨16, _⟩ => ⟨S2048x1, .i32⟩
  | .hbm, ⟨17, _⟩ => ⟨S2048x1, .i1⟩
  | .hbm, ⟨18, _⟩ => ⟨S2048x1, .i1⟩
  | .hbm, ⟨19, _⟩ => ⟨S_, .i1⟩
  | .hbm, ⟨20, _⟩ => ⟨S2048, .i1⟩
  | .hbm, ⟨21, _⟩ => ⟨S2048x1024, .f32⟩
  | .hbm, ⟨22, _⟩ => ⟨S2048x1024, .i1⟩
  | .hbm, ⟨23, _⟩ => ⟨S_, .f32⟩
  | .hbm, ⟨24, _⟩ => ⟨S2048x1024, .f32⟩
  | .hbm, ⟨25, _⟩ => ⟨S2048x1024, .f32⟩
  | .hbm, ⟨26, _⟩ => ⟨S1x2048x1024, .f32⟩
  | .hbm, ⟨27, _⟩ => ⟨S4x2048x1024, .f32⟩
  | .hbm, ⟨28, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩

abbrev nD : Nat := 1
abbrev τ : Topo := Topo.v7x

variable {F : FTy → Type} [FloatOps F]
-- ==== Proof.KernelValue.lean ====
/- What the kernel computes, at any float values. The grid has 16 points `(i, b)`; point `(i, b)` reads rows
   `512 i … 512 i + 511` of batch `b` of `x` and the same rows of the position table, and writes their sum to the same
   place of the result. The 16 written blocks cover the result, so the array ends holding one function of the two
   arguments: entry `(b, n, d)` is `x[b, n, d] + pos_table[n, d]` (`sum`, `final_eq`, `run`). -/
module

public import proofs.«01_k».proof.Proof.Gen.KernelIdeal.Value
public import Idealize.ShloMosaic.Lib.Pipeline.ValueKit
public import Idealize.ShloMosaic.Lib.ValueIdx

@[expose] public section

noncomputable section

namespace Cert.KernelIdeal.Embedding

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The sum of a batch of sequences and a table of positions: entry `(b, n, d)` is `x[b, n, d] + p[n, d]`. -/
def sum (x : Vec F S4x2048x1024 .f32) (p : Vec F S2048x1024 .f32) : Vec F S4x2048x1024 .f32 :=
  fun i => FloatOps.addf (x i) (p (ValueIdx.ix2 ⟨(i 1).val, (i 1).isLt⟩ ⟨(i 2).val, (i 2).isLt⟩))

/-- At every grid point the block of `x` is the block of the result, and the block of the table has the result block's
    row and column indices. -/
theorem indices (t : Fin cfg0.N) :
    win0_0.index t = win0_2.index t ∧ win0_1.index t 0 = win0_2.index t 1 ∧ win0_1.index t 1 = win0_2.index t 2 :=
  (by decide +kernel : ∀ t : Fin grid0.N,
    win0_0.index t = win0_2.index t ∧ win0_1.index t 0 = win0_2.index t 1 ∧ win0_1.index t 1 = win0_2.index t 2) t

/-- What the body leaves in the result's staging buffer, at an index `y` of the block: the sum of the block of `x` at
    `y` and of the block of the table at `y`'s row and column. -/
theorem body_apply (P0 : Vec F S1x512x1024 .f32) (P1 : Vec F S512x1024 .f32) (y : S1x512x1024.Idx) :
    out0_2 P0 P1 y = FloatOps.addf (P0 y) (P1 (ValueIdx.ix2 ⟨(y 1).val, (y 1).isLt⟩ ⟨(y 2).val, (y 2).isLt⟩)) := by
  unfold out0_2
  rw [Value.canon2_eq, View.ld_unit_lit (h := by decide), View.ld_unit_lit (h := by decide)]
  refine congrArg₂ FloatOps.addf (congrArg P0 (funext fun a => Fin.ext ?_)) (congrArg P1 (funext fun a => Fin.ext ?_))
  · match a with
    | ⟨0, _⟩ => have h : (y 0).val < 1 := (y 0).isLt
                show 0 = (y 0).val
                omega
    | ⟨1, _⟩ => rfl
    | ⟨2, _⟩ => rfl
  · match a with
    | ⟨0, _⟩ => rfl
    | ⟨1, _⟩ => rfl

/-- The result array after the run is the sum of the arguments as launched. -/
theorem final_eq (c : Dev nD) :
    (dats m 0 c).arrAt 2 cfg0.N = sum (m ((c : Thread nD τ).loc main_arg0)) (m ((c : Thread nD τ).loc main_arg1)) := by
  refine (dats m 0 c).arrAt_eq_of_covers 2 _ (by decide +kernel) fun t hf y => ?_
  obtain ⟨e0, e1, e2⟩ := indices t
  blk_simp
  rw [after0_2, body_apply]
  unfold sum
  refine congrArg₂ FloatOps.addf ?_ ?_
  · blk_simp [iblk]
    refine congrArg (m ((c : Thread nD τ).loc main_arg0)) (funext fun a => Fin.ext ?_)
    blk_simp
    rw [e0]
  · blk_simp [iblk]
    refine congrArg (m ((c : Thread nD τ).loc main_arg1)) (funext fun a => Fin.ext ?_)
    match a with
    | ⟨0, _⟩ => blk_simp; exact congrArg (fun k => k * 512 + (y 1).val) e1
    | ⟨1, _⟩ => blk_simp; exact congrArg (fun k => k * 1024 + (y 2).val) e2

/-- The run: the result array ends at the sum of the arguments, which are unchanged. -/
theorem run : θ_run defs (onTc (τ := τ) (main (F := F))) ⟨m, fun _ => 0, ρ⟩ fun r => ∀ c : Dev nD,
      r.2.mem ((c : Thread nD τ).loc main_v0) = sum (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_eq m c), (h c).2⟩) (Value.run_blocks m ρ)

end Cert.KernelIdeal.Embedding

end
-- ==== Proof.ReferenceValue.lean ====
/- What the reference computes, at any float values: `jnp.take` at the positions `0, 1, …, 2047` is the table itself.
   No position is negative, so none is wrapped (`wrapped_apply`); every position is a row of the table, so none is masked
   (`kept_apply`); and the gather at position `n` is row `n` (`rows_apply`). Entry `(b, n, d)` of the result is then
   `x[b, n, d] + pos_table[n, d]` (`result_apply`). -/
module

public import proofs.«01_k».proof.Proof.Gen.ReferenceIdeal.Run
public import Idealize.ShloMosaic.Lib.Pipeline.Value
public import Idealize.ShloMosaic.Lib.ReduceAll
public import Idealize.ShloMosaic.Lib.IdealHost
public import Idealize.ShloMosaic.Lib.Routing.Ops
public import Idealize.ShloMosaic.Lib.ValueIdx

@[expose] public section

noncomputable section

namespace Cert.ReferenceIdeal.Embedding

open Cert.ReferenceIdeal Cert.ReferenceIdeal.Gen Idealize.ShloMosaic Idealize.ShloMosaic.TcCoe Idealize.SL.Sem
open Idealize.ShloMosaic.ValueIdx

variable {F : FTy → Type} [FloatOps F]

/-- The positions that the gather reads, as a column: `n` where `n` is not negative, else `n + 2048`. -/
abbrev wrapped : IVec S2048x1 32 :=
  broadcastInDim S2048x1 ![0] bcast_S2048_S2048x1_0
    (select (cmpi .slt (iotaInDim S2048 32 0) (broadcastInDim S2048 ![] bcast_S_S2048 (constantI S_ 32 0#32)))
      (addi (iotaInDim S2048 32 0) (broadcastInDim S2048 ![] bcast_S_S2048 (constantI S_ 32 2048#32))) (iotaInDim S2048 32 0))

/-- Which positions are rows of the table: at least 0 and at most 2047. -/
abbrev kept : IVec S2048 1 :=
  Host.reduce IntOp.andi
    (andi (cmpi .sge wrapped (broadcastInDim S2048x1 ![] bcast_S_S2048x1 (constantI S_ 32 0#32)))
      (cmpi .sle wrapped
        (broadcastInDim S2048x1 ![0, 1] bcast_S1x1_S2048x1_0_1 (broadcastInDim S1x1 ![1] bcast_S1_S1x1_1 (constantI S1 32 2047#32)))))
    (constantI S_ 1 1#1) reducesTo_S2048x1_S2048_d1 h_S_

/-- What `jnp.take` returns: the gathered rows, NaN in the place of a row that is not kept. -/
abbrev taken (p : Vec F S2048x1024 .f32) : Vec F S2048x1024 .f32 :=
  select (broadcastInDim S2048x1024 ![0] bcast_S2048_S2048x1024_0 kept)
    (Host.gather gather_S2048x1024_S2048x1_S2048x1024_1_0_n_n_0_1_11024 p wrapped)
    (broadcastInDim S2048x1024 ![] bcast_S_S2048x1024 (constant S_ .f32 0x7FC00000#32))

/-- The whole result: `x` plus the taken rows, broadcast over the batch. -/
abbrev result (x : Vec F S4x2048x1024 .f32) (p : Vec F S2048x1024 .f32) : Vec F S4x2048x1024 .f32 :=
  addf x (broadcastInDim S4x2048x1024 ![0, 1, 2] bcast_S1x2048x1024_S4x2048x1024_0_1_2
    (broadcastInDim S1x2048x1024 ![1, 2] bcast_S2048x1024_S1x2048x1024_1_2 (taken p)))

/-- A position, read as a signed word, is the number that it is. -/
theorem toInt_pos {n : Nat} (h : n < 2048) : (BitVec.ofNat 32 n).toInt = n := by
  rw [BitVec.toInt_eq_toNat_of_lt] <;> rw [BitVec.toNat_ofNat] <;> omega

/-- No position is wrapped: row `n` of the column holds `n`. -/
theorem wrapped_apply (i : S2048x1.Idx) : wrapped i = BitVec.ofNat 32 (i 0).val := by
  have h : (i 0).val < 2048 := (i 0).isLt
  refine (broadcastInDim_apply _ _ _ i (ix1 ⟨(i 0).val, h⟩) (fun a => ?_)).trans ?_
  · match a with
    | ⟨0, _⟩ => rfl
  · show Scalar.select (IntOp.cmpi .slt (BitVec.ofNat 32 (i 0).val) 0#32) _ (BitVec.ofNat 32 (i 0).val) = _
    rw [eq_zero_of_ne_one (b := IntOp.cmpi .slt (BitVec.ofNat 32 (i 0).val) 0#32)
      (fun e => by have := IntOp.cmpi_slt.1 e; rw [toInt_pos h] at this; simp at this; omega)]
    rfl

/-- Every position is a row of the table, so every row is kept. -/
theorem kept_apply (j : S2048.Idx) : kept j = 1#1 := by
  refine Host.reduce_andi_one _ _ _ _ j rfl fun i => ?_
  have h : (i 0).val < 2048 := (i 0).isLt
  refine IntOp.andi_eq_one.2 ⟨IntOp.cmpi_sge.2 ?_, IntOp.cmpi_sle.2 ?_⟩
  · rw [wrapped_apply, toInt_pos h]
    show (0#32 : BitVec 32).toInt ≤ _
    simp
  · rw [wrapped_apply, toInt_pos h]
    show _ ≤ (2047#32 : BitVec 32).toInt
    have : (2047#32 : BitVec 32).toInt = 2047 := by decide
    omega

/-- The gather at position `n` is row `n` of the table. -/
theorem rows_apply (p : Vec F S2048x1024 .f32) (n : Fin 2048) (d : Fin 1024) :
    Host.gather gather_S2048x1024_S2048x1_S2048x1024_1_0_n_n_0_1_11024 p wrapped (ix2 n d) = p (ix2 n d) :=
  Routing.gather_row _ rfl rfl rfl rfl rfl p wrapped n d n (wrapped_apply _) (by norm_num)

/-- So `jnp.take` at all the positions in order is the table. -/
theorem taken_apply (p : Vec F S2048x1024 .f32) (n : Fin 2048) (d : Fin 1024) : taken p (ix2 n d) = p (ix2 n d) := by
  show Scalar.select (kept _) (Host.gather _ p wrapped (ix2 n d)) _ = _
  rw [kept_apply, rows_apply]
  rfl

/-- Entry `(b, n, d)` of the reference's result is `x[b, n, d] + pos_table[n, d]`. -/
theorem result_apply (x : Vec F S4x2048x1024 .f32) (p : Vec F S2048x1024 .f32) (i : S4x2048x1024.Idx) :
    result x p i = FloatOps.addf (x i) (p (ix2 ⟨(i 1).val, (i 1).isLt⟩ ⟨(i 2).val, (i 2).isLt⟩)) := by
  refine congrArg (FloatOps.addf (x i)) ?_
  refine (broadcastInDim_apply _ _ _ i (ix3 ⟨0, Nat.one_pos⟩ ⟨(i 1).val, (i 1).isLt⟩ ⟨(i 2).val, (i 2).isLt⟩) (fun a => ?_)).trans ?_
  · match a with
    | ⟨0, _⟩ => rfl
    | ⟨1, _⟩ => rfl
    | ⟨2, _⟩ => rfl
  refine (broadcastInDim_apply _ _ _ _ (ix2 ⟨(i 1).val, (i 1).isLt⟩ ⟨(i 2).val, (i 2).isLt⟩) (fun a => ?_)).trans (taken_apply p _ _)
  match a with
  | ⟨0, _⟩ => rfl
  | ⟨1, _⟩ => rfl

/-- The run: the result ends at `result` of the arguments, which are unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v4) = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  Value.run m ρ

end Cert.ReferenceIdeal.Embedding

end
-- ==== Proof.Words.lean ====
/- The runs of the kernel and of the reference as they are, at any float values and so at float words too. The ideal pass
   rewrote nothing: each program is the text of its reading over the extended reals, and that text's run was proved at any
   float values (KernelValue.lean, ReferenceValue.lean). Here the programs are shown to be those, so the runs carry over. -/
module

public import proofs.«01_k».proof.Proof.Gen.Kernel
public import proofs.«01_k».proof.Proof.Gen.Reference
public import proofs.«01_k».proof.Proof.KernelValue
public import proofs.«01_k».proof.Proof.ReferenceValue

@[expose] public section

noncomputable section

open Idealize.ShloMosaic Idealize.ShloMosaic.TcCoe Idealize.SL.Sem

namespace Cert.Kernel.Embedding

open Cert.Kernel Cert.Kernel.Gen

variable {F : FTy → Type} [FloatOps F]

/-- The kernel's one body is the body of its reading over the extended reals. -/
theorem bodies_eq : Cert.Kernel.defs₀ (F := F) = Cert.KernelIdeal.defs₀ (F := F) := by
  unfold Cert.Kernel.defs₀ Cert.KernelIdeal.defs₀
  refine congrArg Defs.onTc (funext fun l => ?_)
  match l with
  | ⟨0, _⟩ => rfl

/-- So are its region and its pipeline. -/
theorem defs_eq : Cert.Kernel.defs (F := F) = Cert.KernelIdeal.defs (F := F) :=
  congrArg (Pipeline.defs Cert.Kernel.pcfgs) bodies_eq

/-- The kernel's run: the result array ends at the sum of the arguments, which are unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v0)
          = Cert.KernelIdeal.Embedding.sum (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  rw [defs_eq]
  exact Cert.KernelIdeal.Embedding.run m ρ

end Cert.Kernel.Embedding

namespace Cert.Reference.Embedding

open Cert.Reference Cert.Reference.Gen

variable {F : FTy → Type} [FloatOps F]

/-- The reference's run: the result ends at `x` plus the taken rows, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v4)
          = Cert.ReferenceIdeal.Embedding.result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  Cert.ReferenceIdeal.Embedding.run m ρ

end Cert.Reference.Embedding

end
-- ==== Proof.lean ====
module

public import proofs.«01_k».proof.Defs
public import proofs.«01_k».proof.Proof.Gen.KernelIdeal.Value
public import proofs.«01_k».proof.Proof.Gen.ReferenceIdeal.Run
public import proofs.«01_k».proof.Proof.KernelValue
public import proofs.«01_k».proof.Proof.ReferenceValue
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Words
public import Idealize.ShloMosaic.Adequacy
public import Idealize.ShloMosaic.Init
public import Idealize.ShloMosaic.Lib.Quiescent

@[expose] public section

noncomputable section

namespace Cert.Proof

open Idealize.ShloMosaic Idealize.SL.Sem

/-- The reference's frame: its run, read at the arguments; it has no semaphore. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩)
    (Cert.ReferenceIdeal.Embedding.run (F := Ideal) m ρ)

/-- The same of the reference at float words. -/
theorem frame_reference_words : Cert.quiescent_Reference (hReference := Cert.Reference.Gen.facts) := fun m ρ _ =>
  (θ_run Cert.Reference.defs _ _).mono
    (fun r h => ⟨fun c => (h c).2, sem_eq_zero_of_no_sems (by decide) r.2⟩)
    (Cert.Reference.Embedding.run (F := Bits) m ρ)

/-- At any float values, the reference's result of arguments equal to the kernel's is the kernel's sum. -/
theorem result_eq_sum {F : FTy → Type} [FloatOps F] {x x' : Vec F Cert.KernelIdeal.S4x2048x1024 .f32}
    {p p' : Vec F Cert.KernelIdeal.S2048x1024 .f32} (hx : x' = x) (hp : p' = p) :
    Cert.ReferenceIdeal.Embedding.result x' p' = Cert.KernelIdeal.Embedding.sum x p := by
  subst hx hp
  exact funext (Cert.ReferenceIdeal.Embedding.result_apply x' p')

/-- Over the extended reals kernel and reference end with the same array: entry `(b, n, d)` is `x[b, n, d] + pos_table[n, d]`
    in both. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨fun c => Cert.KernelIdeal.Embedding.sum (m ((c.tc : Thread Cert.KernelIdeal.nD Cert.KernelIdeal.τ).loc Cert.KernelIdeal.main_arg0))
    (m ((c.tc : Thread Cert.KernelIdeal.nD Cert.KernelIdeal.τ).loc Cert.KernelIdeal.main_arg1)),
    Cert.KernelIdeal.Embedding.run (F := Ideal) m ρ, ?_⟩
  refine (θ_run Cert.ReferenceIdeal.defs _ _).mono (fun _ h c => ⟨(h c).1.trans ?_, (h c).2⟩)
    (Cert.ReferenceIdeal.Embedding.run (F := Ideal) m' ρ')
  exact result_eq_sum (F := Ideal) (hagree c).1 (hagree c).2

/-- At float words kernel and reference end with the same words: both are one float addition of the same two words. -/
theorem bitexact : Cert.bitexact_Kernel_Reference (hKernel := Cert.Kernel.Gen.facts) (hReference := Cert.Reference.Gen.facts) := by
  intro m ρ m' ρ' _ hagree
  refine ⟨fun c => Cert.KernelIdeal.Embedding.sum (m ((c.tc : Thread Cert.Kernel.nD Cert.Kernel.τ).loc Cert.Kernel.main_arg0))
    (m ((c.tc : Thread Cert.Kernel.nD Cert.Kernel.τ).loc Cert.Kernel.main_arg1)), Cert.Kernel.Embedding.run (F := Bits) m ρ, ?_⟩
  refine (θ_run Cert.Reference.defs _ _).mono (fun _ h c => ⟨(h c).1.trans ?_, (h c).2⟩)
    (Cert.Reference.Embedding.run (F := Bits) m' ρ')
  exact result_eq_sum (F := Bits) (hagree c).1 (hagree c).2

/-- Every claim. -/
theorem claim : Cert.Claim :=
  ⟨Cert.Kernel.Gen.facts, Cert.KernelIdeal.Gen.facts, Cert.Reference.Gen.facts, Cert.ReferenceIdeal.Gen.facts,
    fun m ρ _ => Cert.Kernel.Gen.frame m ρ, fun m ρ _ => Cert.KernelIdeal.Gen.frame m ρ, frame_reference_words,
    frame_reference, trivial, algebraic, bitexact⟩

end Cert.Proof

end
